-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x256 : Shape := ⟨2, ![16384, 256]⟩
abbrev S1024x256 : Shape := ⟨2, ![1024, 256]⟩
abbrev S512x256 : Shape := ⟨2, ![512, 256]⟩
abbrev S1024x1 : Shape := ⟨2, ![1024, 1]⟩
abbrev S512x1024 : Shape := ⟨2, ![512, 1024]⟩
abbrev S1x256 : Shape := ⟨2, ![1, 256]⟩
abbrev S1x1024 : Shape := ⟨2, ![1, 1024]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v57 : BitVec 1 := Scalar.cmpi .eq arg0 c31_i32
  let v58 : BitVec 32 := Scalar.extui v57
  let c0_i32_26 : BitVec 32 := 0#32
  let v59 : BitVec 1 := Scalar.cmpi .ne v58 c0_i32_26
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x256 : Shape := ⟨2, ![16384, 256]⟩
abbrev S1024x256 : Shape := ⟨2, ![1024, 256]⟩
abbrev S_ : Shape := ⟨0, ![]⟩
abbrev S16384 : Shape := ⟨1, ![16384]⟩
abbrev S1024 : Shape := ⟨1, ![1024]⟩
abbrev S16384x1 : Shape := ⟨2, ![16384, 1]⟩
abbrev S1x1024 : Shape := ⟨2, ![1, 1024]⟩
abbrev S16384x1024 : Shape := ⟨2, ![16384, 1024]⟩
abbrev S256x1024 : Shape := ⟨2, ![256, 1024]⟩
abbrev S1024x1 : Shape := ⟨2, ![1024, 1]⟩

abbrev nBuf : Space → Nat
  | .hbm => 90
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S1024x256, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S1024, .f32⟩
  | .hbm, ⟨12, _⟩ => ⟨S16384x1, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S256x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .i32⟩
  | .hbm, ⟨40, _⟩ => ⟨S_, .f32⟩
  | .hbm, ⟨41, _⟩ => ⟨S_, .i32⟩
  | .hbm, ⟨42, _⟩ => ⟨S16384, .f32⟩
  | .hbm, ⟨43, _⟩ => ⟨S16384, .i32⟩
  | .hbm, ⟨44, _⟩ => ⟨S_, .i32⟩
  | .hbm, ⟨45, _⟩ => ⟨S1024, .i32⟩
  | .hbm, ⟨46, _⟩ => ⟨S_, .i32⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S_, .i32⟩
  | .hbm, ⟨51, _⟩ => ⟨S16384, .i32⟩
  | .hbm, ⟨52, _⟩ => ⟨S16384, .i1⟩
  | .hbm, ⟨53, _⟩ => ⟨S_, .i32⟩
  | .hbm, ⟨54, _⟩ => ⟨S16384, .i32⟩
  | .hbm, ⟨55, _⟩ => ⟨S16384, .i32⟩
  | .hbm, ⟨56, _⟩ => ⟨S16384, .i32⟩
  | .hbm, ⟨57, _⟩ => ⟨S16384x1, .i32⟩
  | .hbm, ⟨58, _⟩ => ⟨S_, .i32⟩
  | .hbm, ⟨59, _⟩ => ⟨S16384, .i32⟩
  | .hbm, ⟨60, _⟩ => ⟨S1024, .i32⟩
  | .hbm, ⟨61, _⟩ => ⟨S_, .f32⟩
  | .hbm, ⟨62, _⟩ => ⟨S16384, .f32⟩
  | .hbm, ⟨63, _⟩ => ⟨S_, .f32⟩
  | .hbm, ⟨64, _⟩ => ⟨S1024, .f32⟩
  | .hbm, ⟨65, _⟩ => ⟨S16384x1, .i32⟩
  | .hbm, ⟨66, _⟩ => ⟨S1024, .f32⟩
  | .hbm, ⟨67, _⟩ => ⟨S_, .i32⟩
  | .hbm, ⟨68, _⟩ => ⟨S1024, .i32⟩
  | .hbm, ⟨69, _⟩ => ⟨S1024, .i32⟩
  | .hbm, ⟨70, _⟩ => ⟨S_, .i32⟩
  | .hbm, ⟨71, _⟩ => ⟨S1024, .i32⟩
  | .hbm, ⟨72, _⟩ => ⟨S1024, .i32⟩
  | .hbm, ⟨73, _⟩ => ⟨S1024, .f32⟩
  | .hbm, ⟨74, _⟩ => ⟨S1024, .f32⟩
  | .hbm, ⟨75, _⟩ => ⟨S1024x1, .f32⟩
  | .hbm, ⟨76, _⟩ => ⟨S_, .f32⟩
  | .hbm, ⟨77, _⟩ => ⟨S1024x1, .f32⟩
  | .hbm, ⟨78, _⟩ => ⟨S1024x1, .f32⟩
  | .hbm, ⟨79, _⟩ => ⟨S_, .f32⟩
  | .hbm, ⟨80, _⟩ => ⟨S1024x256, .f32⟩
  | .hbm, ⟨81, _⟩ => ⟨S1024x256, .f32⟩
  | .hbm, ⟨82, _⟩ => ⟨S1024x256, .f32⟩
  | .hbm, ⟨83, _⟩ => ⟨S1024x256, .f32⟩
  | .hbm, ⟨84, _⟩ => ⟨S_, .i32⟩
  | .hbm, ⟨85, _⟩ => ⟨S1024, .i32⟩
  | .hbm, ⟨86, _⟩ => ⟨S1024, .i1⟩
  | .hbm, ⟨87, _⟩ => ⟨S1024x1, .i1⟩
  | .hbm, ⟨88, _⟩ => ⟨S1024x256, .i1⟩
  | .hbm, ⟨89, _⟩ => ⟨S1024x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_cst : Ref sig .tc := ⟨.hbm, 40, rfl⟩
abbrev main_call0_c : Ref sig .tc := ⟨.hbm, 41, rfl⟩
abbrev main_call0_v1_0 : Ref sig .tc := ⟨.hbm, 42, rfl⟩
abbrev main_v29 : Ref sig .tc := ⟨.hbm, 43, rfl⟩
abbrev main_c : Ref sig .tc := ⟨.hbm, 44, rfl⟩
abbrev main_v30 : Ref sig .tc := ⟨.hbm, 45, rfl⟩
abbrev main_c_7 : Ref sig .tc := ⟨.hbm, 46, rfl⟩
abbrev main_call1_v0 : Ref sig .tc := ⟨.hbm, 47, rfl⟩
abbrev main_call1_v1 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_c_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_cst_11 : Ref sig .tc := ⟨.hbm, 61, rfl⟩
abbrev main_v40 : Ref sig .tc := ⟨.hbm, 62, rfl⟩
abbrev main_cst_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_13 : Ref sig .tc := ⟨.hbm, 67, rfl⟩
abbrev main_v44 : Ref sig .tc := ⟨.hbm, 68, rfl⟩
abbrev main_v45 : Ref sig .tc := ⟨.hbm, 69, rfl⟩
abbrev main_c_14 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_15 : Ref sig .tc := ⟨.hbm, 76, rfl⟩
abbrev main_v51 : Ref sig .tc := ⟨.hbm, 77, rfl⟩
abbrev main_v52 : Ref sig .tc := ⟨.hbm, 78, rfl⟩
abbrev main_cst_16 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_17 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call2_v0 : Ref sig .tc := ⟨.hbm, 88, rfl⟩
abbrev main_v60 : Ref sig .tc := ⟨.hbm, 89, rfl⟩

abbrev nD : Nat := 1
abbrev τ : Topo := Topo.v7x

variable {F : FTy → Type} [FloatOps F]
-- ==== Proof.RefRun.lean ====
/- The reference's run: the arrays it ends with, as a few named stages of its own operations.

   `refSquares` — the squared distances of all rows to all clusters, cut at zero;
   `refLabels` — for each row the index the argmin returns on their roots; `refCounts` — how often each index occurs;
   `refSums` — the rows' sums added up by index; `refTable` — the new cluster table. -/
module

public import proofs.«01_k».proof.Defs
public import proofs.«01_k».proof.Proof.Gen.ReferenceIdeal
public import Idealize.ShloMosaic.Lib.Claim
public import Idealize.ShloMosaic.Lib.StableHlo.Run
public import Idealize.ShloMosaic.Lib.Quiescent
public import Idealize.ShloMosaic.Lib.Tactic
public import Idealize.ShloMosaic.Adequacy

@[expose] public section

set_option maxRecDepth 16384

noncomputable section

namespace Cert.ReferenceIdeal.Run

open Cert.ReferenceIdeal Cert.ReferenceIdeal.Gen Idealize.ShloMosaic Idealize.ShloMosaic.TcCoe Idealize.SL.Sem

/-- The squared distances of the rows of `x` to the rows of `w`, cut at zero, before the square root. -/
def refSquares (x : FVec Ideal S16384x256 .f32) (w : FVec Ideal S1024x256 .f32) : FVec Ideal S16384x1024 .f32 :=
  maximumf
    (addf
      (addf
        (subf
          (addf
            (broadcastInDim S16384x1024 ![0, 1] bcast_S16384x1_S16384x1024_0_1
              (broadcastInDim S16384x1 ![0] bcast_S16384_S16384x1_0
                (Host.reduceAdd (mulf x x) (constant S_ .f32 0x00000000#32) reducesTo_S16384x256_S16384_d1 h_S_)))
            (broadcastInDim S16384x1024 ![0, 1] bcast_S1x1024_S16384x1024_0_1
              (broadcastInDim S1x1024 ![1] bcast_S1024_S1x1024_1
                (Host.reduceAdd (mulf w w) (constant S_ .f32 0x00000000#32) reducesTo_S1024x256_S1024_d1 h_S_))))
          (mulf (broadcastInDim S16384x1024 ![] bcast_S_S16384x1024 (constant S_ .f32 0x40000000#32))
            (Host.dotGeneral dot_S16384x256_S256x1024_S16384x1024_1_0_0_1_n_n none x
              (transpose S256x1024 [1, 0] w transposes_S1024x256_S256x1024_1_0))))
        (mulf (broadcastInDim S16384x1024 ![] bcast_S_S16384x1024 (constant S_ .f32 0x360637BD#32))
          (subf
            (broadcastInDim S16384x1024 ![0, 1] bcast_S16384x1_S16384x1024_0_1
              (broadcastInDim S16384x1 ![0] bcast_S16384_S16384x1_0
                (Host.reduceAdd x (constant S_ .f32 0x00000000#32) reducesTo_S16384x256_S16384_d1 h_S_)))
            (broadcastInDim S16384x1024 ![0, 1] bcast_S1x1024_S16384x1024_0_1
              (broadcastInDim S1x1024 ![1] bcast_S1024_S1x1024_1
                (Host.reduceAdd w (constant S_ .f32 0x00000000#32) reducesTo_S1024x256_S1024_d1 h_S_))))))
      (broadcastInDim S16384x1024 ![] bcast_S_S16384x1024 (constant S_ .f32 0x2F8CBCCC#32)))
    (broadcastInDim S16384x1024 ![] bcast_S_S16384x1024 (constant S_ .f32 0x00000000#32))

/-- The index the argmin returns for each row of a table of scores. -/
def refLabels (d : FVec Ideal S16384x1024 .f32) : IVec S16384 32 := fun j =>
  (Host.argReduce reducer_argmin_f32_i32 d (iotaInDim S16384x1024 32 1) (constant S_ .f32 0x7F800000#32)
    (constantI S_ 32 0#32) reducesTo_S16384x1024_S16384_d1 h_S_ j).2

/-- The index cut at zero, as the count takes it. -/
def refClip (lab : IVec S16384 32) : IVec S16384 32 :=
  maxsi (broadcastInDim S16384 ![] bcast_S_S16384 (constantI S_ 32 0#32)) lab

/-- How many rows carry each index. -/
def refCounts (lab : IVec S16384 32) : IVec S1024 32 :=
  Host.scatter scatter_S1024_S16384x1_S16384_n_0_0_1 IntOp.addi
    (broadcastInDim S1024 ![] bcast_S_S1024 (constantI S_ 32 0#32))
    (broadcastInDim S16384x1 ![0] bcast_S16384_S16384x1_0
      (select (cmpi .slt (refClip lab) (broadcastInDim S16384 ![] bcast_S_S16384 (constantI S_ 32 0#32)))
        (addi (refClip lab) (broadcastInDim S16384 ![] bcast_S_S16384 (constantI S_ 32 1024#32))) (refClip lab)))
    (broadcastInDim S16384 ![] bcast_S_S16384 (constantI S_ 32 1#32))

/-- The sums of the rows that carry each index. -/
def refSums (x : FVec Ideal S16384x256 .f32) (lab : IVec S16384 32) : FVec Ideal S1024 .f32 :=
  Host.scatterAdd scatter_S1024_S16384x1_S16384_n_0_0_1
    (broadcastInDim S1024 ![] bcast_S_S1024 (constant S_ .f32 0x00000000#32))
    (broadcastInDim S16384x1 ![0] bcast_S16384_S16384x1_0 lab)
    (Host.reduceAdd x (constant S_ .f32 0x00000000#32) reducesTo_S16384x256_S16384_d1 h_S_)

/-- The new cluster table from the counts and the sums. -/
def refTable (counts : IVec S1024 32) (sums : FVec Ideal S1024 .f32) (w : FVec Ideal S1024x256 .f32) :
    FVec Ideal S1024x256 .f32 :=
  select
    (broadcastInDim S1024x256 ![0, 1] bcast_S1024x1_S1024x256_0_1
      (broadcastInDim S1024x1 ![0] bcast_S1024_S1024x1_0
        (cmpi .sgt counts (broadcastInDim S1024 ![] bcast_S_S1024 (constantI S_ 32 32#32)))))
    (addf
      (broadcastInDim S1024x256 ![0, 1] bcast_S1024x1_S1024x256_0_1
        (mulf (broadcastInDim S1024x1 ![] bcast_S_S1024x1 (constant S_ .f32 0x3DCCCCCD#32))
          (broadcastInDim S1024x1 ![0] bcast_S1024_S1024x1_0
            (Host.divf sums
              (sitofp .f32
                (maxsi (muli counts (broadcastInDim S1024 ![] bcast_S_S1024 (constantI S_ 32 256#32)))
                  (broadcastInDim S1024 ![] bcast_S_S1024 (constantI S_ 32 1#32))))))))
      (mulf (broadcastInDim S1024x256 ![] bcast_S_S1024x256 (constant S_ .f32 0x3F666666#32)) w))
    w

/-- The reference's labels of the rows of `x` against the clusters `w`. -/
def labels (x : FVec Ideal S16384x256 .f32) (w : FVec Ideal S1024x256 .f32) : IVec S16384 32 :=
  refLabels (Host.sqrt (refSquares x w))

/-- The reference's second result. -/
def result (x : FVec Ideal S16384x256 .f32) (w : FVec Ideal S1024x256 .f32) : FVec Ideal S1024x256 .f32 :=
  refTable (refCounts (labels x w)) (refSums x (labels x w)) w

/-- The reference terminates with its arguments unchanged and every semaphore at zero. -/
theorem quiet : Cert.quiescent_ReferenceIdeal := by
  intro m g _
  hlo_run
  · exact fun _ => ⟨trivial, trivial⟩
  · exact sem_eq_zero_of_no_sems (sig := sig) (by decide) _

/-- The reference's run: its arguments unchanged, its second result `result` of them. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v60)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  unfold result refTable refCounts refSums refClip labels refLabels refSquares
  simp -implicitDefEqProofs only [StableHlo.TRef.ofBuf, StableHlo.TRef.toBuf, cast_cast, cast_eq]

end Cert.ReferenceIdeal.Run

end
-- ==== Proof.Nearest.lean ====
/- The nearest cluster of a row: the least index at which a family of 1024 extended reals takes its least value, and the
   three ways the two programs arrive at it.

   * the kernel takes the least value, then the least of the indices that attain it;
   * the reference folds over (value, index) pairs, keeping the smaller value and, between equal values, the smaller index;
   * the reference compares the square roots of the values that the kernel compares. -/
module

public import Idealize.ShloMosaic.PureOps.Ideal
public import Idealize.ShloMosaic.PureOps.Reduce
public import Idealize.ShloMosaic.Lib.WordCmp
public import Mathlib.Data.Prod.Lex
public import Mathlib.Data.Finset.Max
public import Mathlib.Data.Finset.Fold

@[expose] public section

noncomputable section

namespace Cert.Nearest

open Idealize.ShloMosaic

/-- `k` is the first place where `f` is least: any other index has a larger value, or the same value and comes later. -/
def IsFirst (f : Fin 1024 → EReal) (k : Fin 1024) : Prop :=
  ∀ j, toLex (f k, k) ≤ toLex (f j, j)

/-- There is a first place of the least value. -/
theorem exists_isFirst (f : Fin 1024 → EReal) : ∃ k, IsFirst f k := by
  obtain ⟨k, -, hk⟩ := Finset.exists_min_image Finset.univ (fun k => toLex (f k, k)) ⟨0, Finset.mem_univ _⟩
  exact ⟨k, fun j => hk j (Finset.mem_univ j)⟩

/-- The first index at which `f` is least. -/
def nearest (f : Fin 1024 → EReal) : Fin 1024 := (exists_isFirst f).choose

theorem nearest_isFirst (f : Fin 1024 → EReal) : IsFirst f (nearest f) := (exists_isFirst f).choose_spec

/-- There is only one. -/
theorem eq_nearest {f : Fin 1024 → EReal} {k : Fin 1024} (h : IsFirst f k) : k = nearest f := by
  have e := le_antisymm (h (nearest f)) (nearest_isFirst f k)
  exact congrArg (fun p => (ofLex p).2) e

/-- The value there is the least one. -/
theorem nearest_le (f : Fin 1024 → EReal) (j : Fin 1024) : f (nearest f) ≤ f j := by
  rcases Prod.Lex.toLex_le_toLex.1 (nearest_isFirst f j) with h | h
  · exact le_of_lt h
  · exact le_of_eq h.1

/-- Whatever attains the least value comes no earlier. -/
theorem nearest_first {f : Fin 1024 → EReal} {j : Fin 1024} (h : f j = f (nearest f)) : nearest f ≤ j := by
  rcases Prod.Lex.toLex_le_toLex.1 (nearest_isFirst f j) with q | q
  · exact absurd h (ne_of_gt q)
  · exact q.2

/-! ### Square roots -/

/-- The ideal square root is strictly increasing from zero on. -/
theorem sqrt_lt {a b : EReal} (ha : 0 ≤ a) (h : a < b) : Ideal.sqrt a < Ideal.sqrt b := by
  induction a with
  | bot => exact absurd ha (by simp)
  | top => exact absurd h (by simp)
  | coe x =>
    have hx : 0 ≤ x := by exact_mod_cast ha
    rw [Ideal.sqrt_coe, if_neg (not_lt.2 hx)]
    induction b with
    | bot => exact absurd h (by simp)
    | top => exact EReal.coe_lt_top _
    | coe y =>
      have hxy : x < y := by exact_mod_cast h
      rw [Ideal.sqrt_coe, if_neg (not_lt.2 (hx.trans hxy.le))]
      exact_mod_cast Real.sqrt_lt_sqrt hx hxy

/-- The nearest index of a nonnegative family is that of its square roots. -/
theorem nearest_sqrt {f : Fin 1024 → EReal} (h : ∀ k, 0 ≤ f k) : nearest (fun k => Ideal.sqrt (f k)) = nearest f := by
  refine (eq_nearest fun j => ?_).symm
  rcases Prod.Lex.toLex_le_toLex.1 (nearest_isFirst f j) with q | q
  · exact Prod.Lex.toLex_le_toLex.2 (.inl (sqrt_lt (h _) q))
  · exact Prod.Lex.toLex_le_toLex.2 (.inr ⟨congrArg Ideal.sqrt q.1, q.2⟩)

/-! ### The kernel's way: the least value, then the least index that attains it -/

/-- The fold of the minimum from `⊤` is the value at the nearest index. -/
theorem fold_min (f : Fin 1024 → EReal) : Finset.univ.fold min ⊤ f = f (nearest f) := by
  refine le_antisymm ?_ ?_
  · exact (Finset.fold_min_le _).2 (.inr ⟨nearest f, Finset.mem_univ _, le_rfl⟩)
  · exact (Finset.le_fold_min _).2 ⟨le_top, fun j _ => nearest_le f j⟩

/-- Two small naturals' words compare, signed, as the naturals do. -/
theorem slt_ofNat {a b : ℕ} (ha : a < 2 ^ 31) (hb : b < 2 ^ 31) :
    BitVec.slt (BitVec.ofNat 32 a) (BitVec.ofNat 32 b) = decide (a < b) := by
  rw [BitVec.slt, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  simp

/-- A signed minimum of two small naturals' words is the word of the minimum. -/
theorem minsi_ofNat {a b : ℕ} (ha : a < 2 ^ 31) (hb : b < 2 ^ 31) :
    IntOp.minsi (BitVec.ofNat 32 a) (BitVec.ofNat 32 b) = BitVec.ofNat 32 (min a b) := by
  unfold IntOp.minsi
  rw [slt_ofNat ha hb]
  by_cases h : a < b
  · rw [min_eq_left h.le]; simp [h]
  · rw [min_eq_right (not_lt.1 h)]; simp [h]

/-- A signed maximum of two small naturals' words is the word of the maximum. -/
theorem maxsi_ofNat {a b : ℕ} (ha : a < 2 ^ 31) (hb : b < 2 ^ 31) :
    IntOp.maxsi (BitVec.ofNat 32 a) (BitVec.ofNat 32 b) = BitVec.ofNat 32 (max a b) := by
  unfold IntOp.maxsi
  rw [slt_ofNat hb ha]
  by_cases h : b < a
  · rw [max_eq_left h.le]; simp [h]
  · rw [max_eq_right (not_lt.1 h)]; simp [h]

/-- A fold of signed minima of small naturals' words is the word of the naturals' least. -/
theorem fold_minsi_ofNat {ι : Type} (s : Finset ι) (g : ι → ℕ) (b : ℕ) (hb : b < 2 ^ 31) (hg : ∀ i, g i < 2 ^ 31) :
    s.fold IntOp.minsi (BitVec.ofNat 32 b) (fun i => BitVec.ofNat 32 (g i)) = BitVec.ofNat 32 (s.fold min b g)
      ∧ s.fold min b g < 2 ^ 31 := by
  classical
  induction s using Finset.induction_on with
  | empty => exact ⟨rfl, hb⟩
  | insert a s ha ih =>
    rw [Finset.fold_insert ha, Finset.fold_insert ha, ih.1, minsi_ofNat (hg a) ih.2]
    exact ⟨rfl, (min_le_left _ _).trans_lt (hg a)⟩

/-- The least index among those that attain the least value, the others standing at 1024, is the nearest. -/
theorem fold_minsi_select (f : Fin 1024 → EReal) :
    Finset.univ.fold IntOp.minsi 2147483647#32
        (fun k : Fin 1024 => BitVec.ofNat 32 (if f k = f (nearest f) then k.val else 1024))
      = BitVec.ofNat 32 (nearest f).val := by
  rw [(fold_minsi_ofNat Finset.univ _ 2147483647 (by norm_num) fun k => ?_).1]
  · congr 1
    refine le_antisymm ?_ ?_
    · exact (Finset.fold_min_le _).2 (.inr ⟨nearest f, Finset.mem_univ _, by rw [if_pos rfl]⟩)
    · refine (Finset.le_fold_min _).2 ⟨by have := (nearest f).isLt; omega, fun j _ => ?_⟩
      split
      · next h => exact nearest_first h
      · exact (nearest f).isLt.le
  · have := k.isLt
    split <;> omega

/-! ### The reference's way: one fold over (value, index) pairs -/

/-- A left fold of minima lies below its start and below every member, and is one of them. -/
theorem foldl_min_spec {α : Type} [LinearOrder α] (l : List α) (a : α) :
    l.foldl min a ≤ a ∧ (∀ x ∈ l, l.foldl min a ≤ x) ∧ (l.foldl min a = a ∨ l.foldl min a ∈ l) := by
  induction l generalizing a with
  | nil => exact ⟨le_rfl, by simp, .inl rfl⟩
  | cons b l ih =>
    obtain ⟨h1, h2, h3⟩ := ih (min a b)
    rw [List.foldl_cons]
    refine ⟨h1.trans (min_le_left _ _), ?_, ?_⟩
    · intro x hx
      rcases List.mem_cons.1 hx with rfl | hx
      · exact h1.trans (min_le_right _ _)
      · exact h2 x hx
    · rcases h3 with h | h
      · rcases min_choice a b with e | e
        · exact .inl (h.trans e)
        · exact .inr (by rw [h, e]; exact List.mem_cons_self)
      · exact .inr (List.mem_cons_of_mem _ h)

/-- The fold of the pairs' minimum from `(⊤, 0)`, over any list that holds exactly the pairs `(f k, k)`, is the nearest
    pair. -/
theorem foldl_pairs (f : Fin 1024 → EReal) (l : List (EReal ×ₗ Fin 1024)) (h : ∀ p, p ∈ l ↔ ∃ k, p = toLex (f k, k)) :
    l.foldl min (toLex (⊤, 0)) = toLex (f (nearest f), nearest f) := by
  obtain ⟨h1, h2, h3⟩ := foldl_min_spec l (toLex ((⊤ : EReal), (0 : Fin 1024)))
  refine le_antisymm (h2 _ ((h _).2 ⟨_, rfl⟩)) ?_
  rcases h3 with e | e
  · rw [e]
    refine (nearest_isFirst f 0).trans (Prod.Lex.toLex_le_toLex.2 ?_)
    rcases eq_or_lt_of_le (le_top : f 0 ≤ ⊤) with q | q
    · exact .inr ⟨q, le_rfl⟩
    · exact .inl q
  · obtain ⟨k, hk⟩ := (h _).1 e
    rw [hk]
    exact nearest_isFirst f k

end Cert.Nearest

end
-- ==== Proof.Score.lean ====
/- The score of a row against a cluster, and the sums over rows that both programs form from it. -/
module

public import proofs.«01_k».proof.Proof.Nearest
public import Idealize.ShloMosaic.Lib.Pointwise.Index

@[expose] public section

noncomputable section

namespace Cert.Nearest

open Idealize.ShloMosaic

/-- The rows of a matrix. -/
abbrev row {n : ℕ} (x : (⟨2, ![n, 256]⟩ : Shape).Idx → EReal) (r : Fin n) : Fin 256 → EReal := fun i => x (ix2 r i)

/-- The squared distance of the row `a` to the cluster `b`, cut at zero: `|a|² + |b|² - 2 a·b + 2ε (Σa - Σb) + nε²`,
    with `ε = 10⁻⁶`, `n = 256` and the three constants as the programs spell them. -/
def score (a b : Fin 256 → EReal) : EReal :=
  max ((((∑ i, a i * a i) + ∑ i, b i * b i) - Ideal.ofBits .f32 0x40000000#32 * ∑ i, a i * b i)
      + Ideal.ofBits .f32 0x360637BD#32 * ((∑ i, a i) - ∑ i, b i) + Ideal.ofBits .f32 0x2F8CBCCC#32) 0

theorem score_nonneg (a b : Fin 256 → EReal) : 0 ≤ score a b := le_max_right _ _

/-- The cluster nearest to the row `a` among the rows of `w`. -/
def label (w : Fin 1024 → Fin 256 → EReal) (a : Fin 256 → EReal) : Fin 1024 := nearest fun k => score a (w k)

/-- A cluster's entry `b` after the update, from the number `n` of its rows and the sum `s` of their entries. -/
def moved (n s b : EReal) : EReal :=
  if Ideal.ofBits .f32 0x42000000#32 < n then
    Ideal.ofBits .f32 0x3DCCCCCD#32 * Ideal.div s (max (n * Ideal.ofBits .f32 0x43800000#32) 1)
      + Ideal.ofBits .f32 0x3F666666#32 * b
  else b

end Cert.Nearest

end
-- ==== Proof.RefLabels.lean ====
/- The reference's labels: the index its argmin returns for a row is the nearest cluster's. -/
module

public import proofs.«01_k».proof.Proof.RefRun
public import proofs.«01_k».proof.Proof.Score
public import Idealize.ShloMosaic.Lib.Pointwise

@[expose] public section

set_option maxRecDepth 16384

noncomputable section

namespace Cert.ReferenceIdeal.Labels

open Cert.ReferenceIdeal Cert.ReferenceIdeal.Gen Cert.ReferenceIdeal.Run Cert.Nearest Idealize.ShloMosaic

/-- The reference's table of squared distances, entry by entry. -/
theorem squares_at (x : FVec Ideal S16384x256 .f32) (w : FVec Ideal S1024x256 .f32) (r : Fin 16384) (k : Fin 1024) :
    refSquares x w (ix2 r k) = score (row x r) (row w k) := by
  pointwise [refSquares]
  rfl

/-! ## The argmin's body on (value, index) pairs -/

/-- A value and an index, the index as the argmin carries it. -/
def pair (p : EReal ×ₗ Fin 1024) : Ideal .f32 × BitVec 32 := ((ofLex p).1, BitVec.ofNat 32 (ofLex p).2.val)

/-- The argmin's body takes the lesser of two pairs in lexicographic order. -/
theorem body_pair (a b : EReal ×ₗ Fin 1024) :
    reducer_argmin_f32_i32 (F := Ideal) (pair a) (pair b) = pair (min a b) := by
  obtain ⟨u, i, rfl⟩ : ∃ u i, a = toLex (u, i) := ⟨_, _, rfl⟩
  obtain ⟨v, j, rfl⟩ : ∃ v j, b = toLex (v, j) := ⟨_, _, rfl⟩
  have hi : i.val < 2 ^ 31 := lt_trans i.isLt (by decide)
  have hj : j.val < 2 ^ 31 := lt_trans j.isLt (by decide)
  have e : IntOp.cmpi .slt (BitVec.ofNat 32 i.val) (BitVec.ofNat 32 j.val) = BitVec.ofBool (decide (i < j)) := by
    rw [WordCmp.cmpi_slt_ofNat hi hj]; rfl
  unfold reducer_argmin_f32_i32 pair
  simp only [Ideal.cmpf_def, Ideal.cmp, ofLex_toLex, e]
  have k1 : IntOp.ori (BitVec.ofBool (decide (u < v))) (BitVec.ofBool (decide (u ≠ u))) = BitVec.ofBool (decide (u < v)) := by
    by_cases h : u < v <;> simp [h, IntOp.ori]
  have k2 : IntOp.ori (BitVec.ofBool (decide (u < v)))
      (IntOp.andi (BitVec.ofBool (decide (u = v))) (BitVec.ofBool (decide (i < j))))
      = BitVec.ofBool (decide (u < v ∨ u = v ∧ i < j)) := by
    by_cases h : u < v <;> by_cases h' : u = v <;> by_cases h'' : i < j <;> simp [h, h', h'', IntOp.ori, IntOp.andi]
  have k3 : ∀ (β : Type) (p : Prop) [Decidable p] (a b : β),
      Scalar.select (BitVec.ofBool (decide p)) a b = if p then a else b := fun β p _ a b => by
    by_cases h : p <;> simp [h, Scalar.select]
  rw [k1, k2, k3, k3]
  by_cases h : u < v ∨ u = v ∧ i < j
  · have q : toLex (u, i) ≤ toLex (v, j) :=
      Prod.Lex.toLex_le_toLex.2 (h.imp id fun g => ⟨g.1, g.2.le⟩)
    rw [if_pos h, min_eq_left q]
    refine Prod.ext ?_ rfl
    show (if u < v then u else v) = u
    rcases h with g | g
    · exact if_pos g
    · rw [g.1, ite_self]
  · have g : v ≤ u := not_lt.1 fun g => h (.inl g)
    have q : toLex (v, j) ≤ toLex (u, i) := Prod.Lex.toLex_le_toLex.2
      (g.lt_or_eq.imp id fun g' => ⟨g', not_lt.1 fun g'' => h (.inr ⟨g'.symm, g''⟩)⟩)
    rw [if_neg h, min_eq_right q, if_neg (not_lt.2 g)]
    rfl

/-- The pairs of row `r` of a table whose positions are numbered by `e`, in that order. -/
def pairs {N : ℕ} (e : S16384x1024.Idx ≃ Fin N) (d : FVec Ideal S16384x1024 .f32) (r : Fin 16384) :
    List (EReal ×ₗ Fin 1024) :=
  ((List.finRange N).filter fun n => reducesTo_S16384x1024_S16384_d1.drop (e.symm n) = ix1 r).map fun n =>
    toLex (d (e.symm n), e.symm n 1)

/-- The positions of row `r`. -/
theorem drop_iff (i : S16384x1024.Idx) (r : Fin 16384) :
    reducesTo_S16384x1024_S16384_d1.drop i = ix1 r ↔ i 0 = r := by
  have e := reducesTo_S16384x1024_S16384_d1.drop_apply_val_of_eq i 0 0 (by decide) (by decide)
  constructor
  · intro h
    rw [h] at e
    exact Fin.ext e.symm
  · intro h
    rw [eq_ix1 (reducesTo_S16384x1024_S16384_d1.drop i)]
    exact congrArg ix1 (Fin.ext (e.trans (congrArg Fin.val h)))

/-- The pairs are the row's values with their positions. -/
theorem mem_pairs {N : ℕ} (e : S16384x1024.Idx ≃ Fin N) (d : FVec Ideal S16384x1024 .f32) (r : Fin 16384)
    (p : EReal ×ₗ Fin 1024) : p ∈ pairs e d r ↔ ∃ k : Fin 1024, p = toLex (d (ix2 r k), k) := by
  unfold pairs
  simp only [List.mem_map, List.mem_filter, List.mem_finRange, true_and, decide_eq_true_eq, drop_iff]
  constructor
  · rintro ⟨n, h, rfl⟩
    refine ⟨e.symm n 1, ?_⟩
    have q : e.symm n = ix2 r (e.symm n 1) := by rw [← h]; exact (ix2_eta _).symm
    exact congrArg (fun v => toLex (v, (e.symm n 1 : Fin 1024))) (congrArg d q)
  · rintro ⟨k, rfl⟩
    exact ⟨e (ix2 r k), by rw [Equiv.symm_apply_apply]; exact ix2_0 r k, by rw [Equiv.symm_apply_apply]; rfl⟩

/-- The argmin's fold for one row: its body over the row's values and indices, from the pair `p`. -/
def rowFold {N : ℕ} (e : S16384x1024.Idx ≃ Fin N) (d : FVec Ideal S16384x1024 .f32) (p : Ideal .f32 × BitVec 32)
    (j : S16384.Idx) : Ideal .f32 × BitVec 32 :=
  (((List.finRange N).filter fun n => reducesTo_S16384x1024_S16384_d1.drop (e.symm n) = j).map fun n =>
    (d (e.symm n), iotaInDim S16384x1024 32 1 (e.symm n))).foldl (reducer_argmin_f32_i32 (F := Ideal)) p

/-- The fold gives the least value and the nearest index. -/
theorem rowFold_at {N : ℕ} (e : S16384x1024.Idx ≃ Fin N) (d : FVec Ideal S16384x1024 .f32) (r : Fin 16384) :
    rowFold e d (pair (toLex (⊤, 0))) (ix1 r)
      = pair (toLex (d (ix2 r (nearest fun k => d (ix2 r k))), nearest fun k => d (ix2 r k))) := by
  have hl : ((List.finRange N).filter fun n => reducesTo_S16384x1024_S16384_d1.drop (e.symm n) = ix1 r).map (fun n =>
      (d (e.symm n), iotaInDim S16384x1024 32 1 (e.symm n))) = (pairs e d r).map pair := by
    unfold pairs
    rw [List.map_map]
    rfl
  rw [rowFold, hl, List.foldl_map, List.foldl_hom pair (g₁ := min) fun a b => body_pair a b,
    foldl_pairs (fun k => d (ix2 r k)) _ (mem_pairs e d r)]

/-- The pair the argmin starts from. -/
theorem start_pair : ((constant (F := Ideal) S_ .f32 0x7F800000#32 (Shape.Idx.first h_S_),
    constantI S_ 32 0#32 (Shape.Idx.first h_S_)) : Ideal .f32 × BitVec 32) = pair (toLex (⊤, 0)) := by
  refine Prod.ext ?_ rfl
  show Ideal.ofBits .f32 0x7F800000#32 = ⊤
  simp [Ideal.ofBits, Ideal.ieee]

/-- The index an argmin returns is the one its body's fold over the fiber ends with. -/
theorem argReduce_index {s t u : Shape} {axes : List (Fin s.rank)} {β : Type}
    (f : Ideal .f32 × β → Ideal .f32 × β → Ideal .f32 × β) (x : FVec Ideal s .f32) (y : s.Idx → β) (ix : u.Idx → Ideal .f32)
    (iy : u.Idx → β) (h : s.ReducesTo axes t) (hu : 0 < u.numel) :
    (fun j => (Host.argReduce f x y ix iy h hu j).2) = fun j =>
      ((((List.finRange s.numel).filter fun n => h.drop (s.rowMajor.symm n) = j).map fun n =>
          (x (s.rowMajor.symm n), y (s.rowMajor.symm n))).foldl f
        (ix (Shape.Idx.first hu), iy (Shape.Idx.first hu))).2 :=
  funext fun j => congrArg Prod.snd
    ((congrFun (Ideal.argReduce_eq_reduce2 f x y ix iy h hu) j).trans (Host.reduce2_eq_foldl_fiber f x y ix iy h hu j))

/-- The reference's labels, all at once, as the rows' folds. -/
theorem labels_fold (d : FVec Ideal S16384x1024 .f32) :
    refLabels d = fun j => (rowFold S16384x1024.rowMajor d (pair (toLex (⊤, 0))) j).2 := by
  rw [← start_pair]
  exact argReduce_index reducer_argmin_f32_i32 d (iotaInDim S16384x1024 32 1) (constant S_ .f32 0x7F800000#32)
    (constantI S_ 32 0#32) reducesTo_S16384x1024_S16384_d1 h_S_

/-- The argmin's index for row `r` of any table. -/
theorem argmin_at (d : FVec Ideal S16384x1024 .f32) (r : Fin 16384) :
    refLabels d (ix1 r) = BitVec.ofNat 32 (nearest fun k => d (ix2 r k)).val :=
  (congrFun (labels_fold d) (ix1 r)).trans (congrArg Prod.snd (rowFold_at S16384x1024.rowMajor d r))

/-- A root of a table, entry by entry. -/
theorem sqrt_at (d : FVec Ideal S16384x1024 .f32) (i : S16384x1024.Idx) : Host.sqrt d i = Ideal.sqrt (d i) := rfl

/-- THE REFERENCE'S LABELS: row `r` gets the nearest cluster's index, for the root does not change which is nearest. -/
theorem label_at (x : FVec Ideal S16384x256 .f32) (w : FVec Ideal S1024x256 .f32) (r : Fin 16384) :
    labels x w (ix1 r) = BitVec.ofNat 32 (label (row w) (row x r)).val := by
  unfold labels
  rw [argmin_at]
  have e : (fun k : Fin 1024 => Host.sqrt (refSquares x w) (ix2 r k))
      = fun k => Ideal.sqrt (score (row x r) (row w k)) := funext fun k => by
    rw [sqrt_at, squares_at]
  rw [e, nearest_sqrt fun k => score_nonneg _ _]
  rfl

end Cert.ReferenceIdeal.Labels

end
-- ==== Proof.RefSums.lean ====
/- The reference's counts and sums: its two scatters, read at a cluster. -/
module

public import proofs.«01_k».proof.Proof.RefLabels
public import Idealize.ShloMosaic.Lib.Routing.OpsPair
public import Idealize.ShloMosaic.Lib.Pointwise.IndexBridge

@[expose] public section

set_option maxRecDepth 16384

noncomputable section

namespace Cert.ReferenceIdeal.Sums

open Cert.ReferenceIdeal Cert.ReferenceIdeal.Gen Cert.ReferenceIdeal.Run Cert.Nearest Idealize.ShloMosaic

/-- The scatter both use: one index per row, into a vector of clusters. -/
abbrev dims : ScatterDims S1024 S16384x1 S16384 := scatter_S1024_S16384x1_S16384_n_0_0_1

/-- Row `r` lands at cluster `k` exactly when its index, read signed, is `k`. -/
theorem lands (idx : IVec S16384x1 32) (r : Fin 16384) (k : Fin 1024) :
    dims.resultIdx? (ix1 r) idx = some (ix1 k) ↔ (idx (ix2 r 0)).toInt = (k.val : Int) := by
  have hw : dims.window (ix1 r) 0 = 0 := by
    unfold ScatterDims.window
    exact dif_neg (by decide)
  have hs : dims.start (ix1 r) idx 0 = (idx (ix2 r 0)).toInt := by
    unfold ScatterDims.start
    rw [dif_pos (by decide)]
    congr 2
    funext a
    match a with
    | ⟨0, _⟩ => rfl
    | ⟨1, _⟩ => rfl
  rw [ix1_eq_valueIdx k, Routing.resultIdx?_ix1, hw, hs]
  simp

/-- … so, the index the word of a cluster's number `l`, exactly when `l` is `k`. -/
theorem lands_word (idx : IVec S16384x1 32) (l : Fin 16384 → Fin 1024)
    (h : ∀ r, idx (ix2 r 0) = BitVec.ofNat 32 (l r).val) (r : Fin 16384) (k : Fin 1024) :
    dims.resultIdx? (ix1 r) idx = some (ix1 k) ↔ l r = k := by
  have hl := (l r).isLt
  rw [lands, h, BitVec.toInt_eq_toNat_of_lt (by rw [BitVec.toNat_ofNat]; omega), BitVec.toNat_ofNat, Nat.mod_eq_of_lt (by omega),
    Nat.cast_inj, Fin.val_inj]

/-- A fold that adds one for every member with a property counts those members. -/
theorem foldl_tally {ι : Type} (P : ι → Prop) [DecidablePred P] (l : List ι) (z : ℕ) :
    l.foldl (fun a n => if P n then IntOp.addi a 1#32 else a) (BitVec.ofNat 32 z)
      = BitVec.ofNat 32 (z + l.countP fun n => P n) := by
  induction l generalizing z with
  | nil => rfl
  | cons n l ih =>
    rw [List.foldl_cons, List.countP_cons]
    by_cases h : P n
    · have e : IntOp.addi (BitVec.ofNat 32 z) 1#32 = BitVec.ofNat 32 (z + 1) := WordCmp.addi_ofNat z 1
      rw [if_pos h, e, ih]
      congr 1
      simp [h]; omega
    · rw [if_neg h, ih]
      simp [h]

/-- The number of rows whose index is `k`. -/
def number (l : Fin 16384 → Fin 1024) (k : Fin 1024) : ℕ := (Finset.univ.filter fun r => l r = k).card

/-- A scatter of ones, its rows taken in any numbering, counts the rows with index `k`. -/
theorem scatter_count {N : ℕ} (e : S16384.Idx ≃ Fin N) (idx : IVec S16384x1 32) (upd : IVec S16384 32)
    (hu : ∀ r, upd r = 1#32) (l : Fin 16384 → Fin 1024) (h : ∀ r, idx (ix2 r 0) = BitVec.ofNat 32 (l r).val) (k : Fin 1024) :
    (List.finRange N).foldl (fun a n => if dims.resultIdx? (e.symm n) idx = some (ix1 k) then
        IntOp.addi a (upd (e.symm n)) else a) 0#32 = BitVec.ofNat 32 (number l k) := by
  have hf : ∀ n, e.symm n = ix1 (n0 := 16384) (e.symm n 0) := fun n => eq_ix1 _
  have hd : ∀ n, dims.resultIdx? (e.symm n) idx = some (ix1 k) ↔ l (e.symm n 0) = k := fun n => by
    rw [hf n]; exact lands_word idx l h (e.symm n 0) k
  simp only [hu]
  refine (foldl_tally (fun n => dims.resultIdx? (e.symm n) idx = some (ix1 k)) (List.finRange N) 0).trans ?_
  rw [Nat.zero_add, List.countP_eq_length_filter,
    ← List.toFinset_card_of_nodup ((List.nodup_finRange N).filter _), List.toFinset_filter, List.toFinset_finRange]
  refine congrArg (BitVec.ofNat 32) (?_ : _ = (Finset.univ.filter fun r => l r = k).card)
  refine Finset.card_nbij' (fun n => (e.symm n 0 : Fin 16384)) (fun r => e (ix1 r)) ?_ ?_ ?_ ?_
  · intro n hn
    have hn' : l (e.symm n 0) = k := by simpa [hd] using hn
    exact Finset.mem_coe.2 (Finset.mem_filter.2 ⟨Finset.mem_univ _, hn'⟩)
  · intro r hr
    have hr' : l r = k := by simpa using hr
    simpa [lands_word idx l h] using hr'
  · intro n _
    show e (ix1 (n0 := 16384) (e.symm n 0)) = n
    rw [← hf n, Equiv.apply_symm_apply]
  · intro r _
    show e.symm (e (ix1 r)) 0 = r
    rw [Equiv.symm_apply_apply]; rfl

theorem number_le (l : Fin 16384 → Fin 1024) (k : Fin 1024) : number l k ≤ 16384 :=
  (Finset.card_filter_le _ _).trans (by simp)

/-- A cluster's number below zero is none, so cutting at zero and wrapping around change nothing. -/
theorem kept (l : Fin 1024) :
    Scalar.select (IntOp.cmpi .slt (IntOp.maxsi 0#32 (BitVec.ofNat 32 l.val)) 0#32)
        (IntOp.addi (IntOp.maxsi 0#32 (BitVec.ofNat 32 l.val)) 1024#32) (IntOp.maxsi 0#32 (BitVec.ofNat 32 l.val))
      = BitVec.ofNat 32 l.val := by
  have hl := l.isLt
  have e : IntOp.maxsi 0#32 (BitVec.ofNat 32 l.val) = BitVec.ofNat 32 l.val :=
    (maxsi_ofNat (a := 0) (by decide) (by omega)).trans (congrArg (BitVec.ofNat 32) (Nat.zero_max _))
  rw [e]
  exact Routing.wrap_of_lt _ _ (by rw [BitVec.toNat_ofNat]; omega)

/-- THE REFERENCE'S COUNT of a cluster: the number of rows labelled with it. -/
theorem counts_at (lab : IVec S16384 32) (l : Fin 16384 → Fin 1024) (h : ∀ r, lab (ix1 r) = BitVec.ofNat 32 (l r).val)
    (k : Fin 1024) : refCounts lab (ix1 k) = BitVec.ofNat 32 (number l k) := by
  unfold refCounts
  refine (Routing.scatter_at _ _ _ _ _ _).trans ?_
  refine scatter_count S16384.rowMajor _ _ ?_ l ?_ k
  · intro r; rfl
  · intro r
    pointwise [refClip]
    rw [h r]
    exact kept (l r)

/-- THE REFERENCE'S SUM of a cluster: the sums of the rows labelled with it. -/
theorem sums_at (x : FVec Ideal S16384x256 .f32) (lab : IVec S16384 32) (l : Fin 16384 → Fin 1024)
    (h : ∀ r, lab (ix1 r) = BitVec.ofNat 32 (l r).val) (k : Fin 1024) :
    refSums x lab (ix1 k) = ∑ r, if l r = k then ∑ i, row x r i else 0 := by
  have hi : ∀ r, broadcastInDim S16384x1 ![0] bcast_S16384_S16384x1_0 lab (ix2 r 0) = BitVec.ofNat 32 (l r).val := fun r => by
    pointwise
    exact h r
  have hx : ∀ r, Host.reduceAdd x (constant S_ .f32 0x00000000#32) reducesTo_S16384x256_S16384_d1 h_S_ (ix1 r)
      = ∑ i, row x r i := fun r => by
    pointwise
  have hz : broadcastInDim S1024 ![] bcast_S_S1024 (constant (F := Ideal) S_ .f32 0x00000000#32) (ix1 k) = 0 := by
    pointwise
  refine (show refSums x lab (ix1 k) = broadcastInDim S1024 ![] bcast_S_S1024 (constant S_ .f32 0x00000000#32) (ix1 k)
    + ∑ j ∈ Finset.univ.filter (fun j => dims.resultIdx? j
          (broadcastInDim S16384x1 ![0] bcast_S16384_S16384x1_0 lab) = some (ix1 k)),
        Host.reduceAdd x (constant S_ .f32 0x00000000#32) reducesTo_S16384x256_S16384_d1 h_S_ j from rfl).trans ?_
  rw [hz, zero_add, Finset.sum_filter, sum_idx1]
  exact Finset.sum_congr rfl fun r _ => by simp only [lands_word _ l hi r k, hx]

end Cert.ReferenceIdeal.Sums

end
-- ==== Proof.Step.lean ====
/- What one grid point of the kernel leaves behind, in the kernel's own vector operations.

   Every point adds, per cluster, the number of its block's rows nearest to the cluster (`countStep`) and the sum of those
   rows' entries (`sumStep`) to two carried columns; the first point starts both from zero, and the last one also writes
   the new cluster table (`finish`) from the two columns it has just completed. -/
module

public import proofs.«01_k».proof.Proof.Gen.KernelIdeal.Value
public import Idealize.ShloMosaic.Lib.Tactic

@[expose] public section

set_option maxRecDepth 16384

noncomputable section

namespace Cert.KernelIdeal.Step

open Cert.KernelIdeal Cert.KernelIdeal.Gen Idealize.ShloMosaic Idealize.ShloMosaic.TcCoe Idealize.SL.Sem

variable {F : FTy → Type} [FloatOps F]

/-- The cluster numbers 0 … 1023 along each row of a block. -/
abbrev numbers : IVec S512x1024 32 := iota .tc S512x1024 32 [1] iota_S512x1024_d1_w32

/-- The counts after a point, from the counts before it: block `x`, cluster table `w`. -/
def countStep (x : Vec F S512x256 .f32) (w : Vec F S1024x256 .f32) (acc : Vec F S1024x1 .f32) : Vec F S1024x1 .f32 :=
  k0_pay2 numbers (k0_pay8 x w) acc

/-- The sums after a point, from the sums before it. -/
def sumStep (x : Vec F S512x256 .f32) (w : Vec F S1024x256 .f32) (acc : Vec F S1024x1 .f32) : Vec F S1024x1 .f32 :=
  k0_pay3 (k0_pay7 x) numbers (k0_pay8 x w) acc

/-- The new cluster table, from the complete counts and sums. -/
def finish (counts sums : Vec F S1024x1 .f32) (w : Vec F S1024x256 .f32) : Vec F S1024x256 .f32 :=
  k0_pay4 counts sums w

/-- A load or store at the origin of a matrix takes it whole. -/
theorem origin : (![0, 0] : Fin 2 → Nat) = fun _ => 0 := by
  funext a
  match a with
  | ⟨0, _⟩ => rfl
  | ⟨1, _⟩ => rfl

section Cases

variable (c : Dev nD) (i : grid0.Coords)
  (a1 : Memref sig .tc .vmem S512x256 .f32) (h1 : a1.IsWhole) (a2 : Memref sig .tc .vmem S1024x256 .f32) (h2 : a2.IsWhole)
  (a3 : Memref sig .tc .vmem S1024x256 .f32) (h3 : a3.IsWhole) (a4 : Memref sig .tc .vmem S1024x1 .f32) (h4 : a4.IsWhole)
  (a5 : Memref sig .tc .vmem S1024x1 .f32) (h5 : a5.IsWhole)
  (x : Vec F S512x256 .f32) (w : Vec F S1024x256 .f32) (n s : Vec F S1024x1 .f32)

/-- The first point leaves in the counts what one step makes of zero. -/
theorem counts_first (hc : cond0_0 i) (hd : ¬cond0_1 i) :
    sout0_A_0 c i a1 h1 a2 h2 a3 h3 a4 h4 a5 h5 hc hd x w = countStep x w k0_pay5 := by
  unfold sout0_A_0
  rw [View.read_writes_eq_canon _ _ _ (scover0_A_0 c i a1 h1 a2 h2 a3 h3 a4 h4 a5 h5 hc hd x w)]
  unfold kernelRun0_A
  dsimp only
  sl_unfold_words
  rw [View.canon_cons_unit_zero (S := S1024x1) origin, View.readCov_unit_zero (S := S1024x1) _ origin]
  simp only [View.readAt_eq_ld, h1.read_unread, h2.read_unread, View.ld_unit_zero (S := S512x256) origin,
    View.ld_unit_zero (S := S1024x256) origin, countStep]

/-- The first point leaves in the sums what one step makes of zero. -/
theorem sums_first (hc : cond0_0 i) (hd : ¬cond0_1 i) :
    sout0_A_1 c i a1 h1 a2 h2 a3 h3 a4 h4 a5 h5 hc hd x w = sumStep x w k0_pay6 := by
  unfold sout0_A_1
  rw [View.read_writes_eq_canon _ _ _ (scover0_A_1 c i a1 h1 a2 h2 a3 h3 a4 h4 a5 h5 hc hd x w)]
  unfold kernelRun0_A
  dsimp only
  sl_unfold_words
  rw [View.canon_cons_unit_zero (S := S1024x1) origin, View.readCov_unit_zero (S := S1024x1) _ origin]
  simp only [View.readAt_eq_ld, h1.read_unread, h2.read_unread, View.ld_unit_zero (S := S512x256) origin,
    View.ld_unit_zero (S := S1024x256) origin, sumStep]

/-- A middle point takes one step on the counts. -/
theorem counts_middle (hc : ¬cond0_0 i) (hd : ¬cond0_1 i) :
    sout0_B_0 c i a1 h1 a2 h2 a3 h3 a4 h4 a5 h5 hc hd x w n s = countStep x w n := by
  unfold sout0_B_0
  rw [View.read_writes_eq_canon _ _ _ (scover0_B_0 c i a1 h1 a2 h2 a3 h3 a4 h4 a5 h5 hc hd x w n s)]
  unfold kernelRun0_B
  dsimp only
  sl_unfold_words
  rw [View.canon_unit_zero origin]
  simp only [View.readAt_eq_ld, h1.read_unread, h2.read_unread, h4.read_unread, View.ld_unit_zero (S := S512x256) origin,
    View.ld_unit_zero (S := S1024x256) origin, View.ld_unit_zero (S := S1024x1) origin, countStep]

/-- A middle point takes one step on the sums. -/
theorem sums_middle (hc : ¬cond0_0 i) (hd : ¬cond0_1 i) :
    sout0_B_1 c i a1 h1 a2 h2 a3 h3 a4 h4 a5 h5 hc hd x w n s = sumStep x w s := by
  unfold sout0_B_1
  rw [View.read_writes_eq_canon _ _ _ (scover0_B_1 c i a1 h1 a2 h2 a3 h3 a4 h4 a5 h5 hc hd x w n s)]
  unfold kernelRun0_B
  dsimp only
  sl_unfold_words
  rw [View.canon_unit_zero origin]
  simp only [View.readAt_eq_ld, h1.read_unread, h2.read_unread, h5.read_unread, View.ld_unit_zero (S := S512x256) origin,
    View.ld_unit_zero (S := S1024x256) origin, View.ld_unit_zero (S := S1024x1) origin, sumStep]

/-- The last point writes the new cluster table from the counts and the sums after its own step. -/
theorem table_last (hc : ¬cond0_0 i) (hd : cond0_1 i) :
    out0_C_2 c i a1 h1 a2 h2 a3 h3 a4 h4 a5 h5 hc hd x w n s = finish (countStep x w n) (sumStep x w s) w := by
  unfold out0_C_2
  rw [View.read_writes_eq_canon _ _ _ (cover0_C_2 c i a1 h1 a2 h2 a3 h3 a4 h4 a5 h5 hc hd x w n s)]
  unfold kernelRun0_C
  dsimp only
  sl_unfold_words
  rw [View.canon_unit_zero origin, View.readCov_unit_zero (S := S1024x1) _ origin,
    View.readCov_unit_zero (S := S1024x1) _ origin]
  simp only [View.readAt_eq_ld, h1.read_unread, h2.read_unread, h4.read_unread, h5.read_unread,
    View.ld_unit_zero (S := S512x256) origin,
    View.ld_unit_zero (S := S1024x256) origin, View.ld_unit_zero (S := S1024x1) origin, finish, countStep, sumStep]

end Cases

end Cert.KernelIdeal.Step

end
-- ==== Proof.Block.lean ====
/- What one block of the kernel computes, entry by entry. -/
module

public import proofs.«01_k».proof.Proof.Step
public import proofs.«01_k».proof.Proof.Score
public import Idealize.ShloMosaic.Lib.Pointwise

@[expose] public section

set_option maxRecDepth 16384

noncomputable section

namespace Cert.KernelIdeal.Block

open Cert.KernelIdeal Cert.KernelIdeal.Gen Cert.KernelIdeal.Step Cert.Nearest Idealize.ShloMosaic

variable (x : FVec Ideal S512x256 .f32) (w : FVec Ideal S1024x256 .f32) (acc : FVec Ideal S1024x1 .f32)

/-- The sum of a row of the block. -/
theorem rowSum (s : Fin 512) : k0_pay7 (F := Ideal) x (ix2 s 0) = ∑ i, row x s i := by
  pointwise [k0_pay7]

/-- The index the block computes for each of its rows is the nearest cluster's. -/
theorem labelWord (s : Fin 512) :
    k0_pay8 (F := Ideal) x w (ix1 s) = BitVec.ofNat 32 (label (row w) (row x s)).val := by
  pointwise [k0_pay8, k0_pay7]
  have hinf : Ideal.ofBits .f32 0x7F800000#32 = ⊤ := by simp [Ideal.ofBits, Ideal.ieee]
  rw [hinf]
  simp only [fun k => show max _ 0 = score (row x s) (row w k) from rfl]
  rw [fold_min fun k => score (row x s) (row w k)]
  simp only [show (1024#32) = BitVec.ofNat 32 1024 from rfl, ← apply_ite (BitVec.ofNat 32)]
  exact fold_minsi_select fun k => score (row x s) (row w k)

/-- An entry of the one-hot matrix: one where the cluster's number is the row's index, zero elsewhere. -/
theorem oneHot (k l : Fin 1024) :
    FloatOps.sitofp (F := Ideal) .f32
        (BitVec.setWidth 32 (IntOp.cmpi .eq (BitVec.ofNat 32 k.val) (BitVec.ofNat 32 l.val)))
      = (if l = k then 1 else 0 : EReal) := by
  have e : IntOp.cmpi .eq (BitVec.ofNat 32 k.val) (BitVec.ofNat 32 l.val) = 1#1 ↔ k.val = l.val :=
    WordCmp.cmpi_eq_ofNat_eq_one_iff (lt_trans k.isLt (by decide)) (lt_trans l.isLt (by decide))
  have z : IntOp.cmpi .eq (BitVec.ofNat 32 k.val) (BitVec.ofNat 32 l.val) = 0#1 ↔ ¬k.val = l.val :=
    WordCmp.cmpi_eq_ofNat_eq_zero_iff (lt_trans k.isLt (by decide)) (lt_trans l.isLt (by decide))
  by_cases h : l = k
  · rw [if_pos h, e.mpr (congrArg Fin.val h.symm)]
    show (((BitVec.setWidth 32 1#1).toInt : ℝ) : EReal) = 1
    norm_num
  · rw [if_neg h, z.mpr fun q => h (Fin.ext q.symm)]
    show (((BitVec.setWidth 32 0#1).toInt : ℝ) : EReal) = 0
    norm_num

/-- A block adds to a cluster's count the number of its rows nearest to the cluster. -/
theorem countStep_at (k : Fin 1024) :
    countStep (F := Ideal) x w acc (ix2 k 0)
      = acc (ix2 k 0) + ∑ s : Fin 512, if label (row w) (row x s) = k then 1 else 0 := by
  pointwise [countStep, k0_pay2, k0_pay1]
  simp only [labelWord, oneHot]

/-- A block adds to a cluster's sum the sums of its rows nearest to the cluster. -/
theorem sumStep_at (k : Fin 1024) :
    sumStep (F := Ideal) x w acc (ix2 k 0)
      = acc (ix2 k 0) + ∑ s : Fin 512, if label (row w) (row x s) = k then ∑ i, row x s i else 0 := by
  pointwise [sumStep, k0_pay3, k0_pay1]
  simp only [labelWord, oneHot, rowSum, ite_mul, one_mul, zero_mul]

/-- The new table: a cluster with more than 32 rows moves a tenth of the way to the mean of their entries. -/
theorem finish_at (n s : FVec Ideal S1024x1 .f32) (k : Fin 1024) (j : Fin 256) :
    finish (F := Ideal) n s w (ix2 k j) = moved (n (ix2 k 0)) (s (ix2 k 0)) (w (ix2 k j)) := by
  pointwise [finish, k0_pay4, moved]

end Cert.KernelIdeal.Block

end
-- ==== Proof.Array.lean ====
/- What the kernel's array holds at the end: the two carried columns run through the blocks of 512 rows, so at the last
   point they hold sums over all 16384 rows. -/
module

public import proofs.«01_k».proof.Proof.Block
public import Idealize.ShloMosaic.Lib.Pipeline.ValueKit.Point

@[expose] public section

set_option maxRecDepth 16384

noncomputable section

namespace Cert.KernelIdeal.Array

open Cert.KernelIdeal Cert.KernelIdeal.Gen Cert.KernelIdeal.Step Cert.KernelIdeal.Block Cert.KernelIdeal.Value
open Cert.Nearest Idealize.ShloMosaic Idealize.ShloMosaic.TcCoe Idealize.SL.Sem

/-! ## Sums block by block -/

/-- Row `s` of block `t`, as a row of the whole matrix. -/
def place (t : Fin 32) (s : Fin 512) : Fin 16384 := ⟨512 * t.val + s.val, by have := t.isLt; have := s.isLt; omega⟩

/-- The sum of `f` over the rows of block `t`; nothing beyond the last block. -/
def part (f : Fin 16384 → EReal) (t : ℕ) : EReal := if h : t < 32 then ∑ s : Fin 512, f (place ⟨t, h⟩ s) else 0

/-- The blocks' sums add up to the sum over all rows. -/
theorem sum_part (f : Fin 16384 → EReal) : ∑ t ∈ Finset.range 32, part f t = ∑ r, f r := by
  rw [Finset.sum_range]
  have h : ∀ t : Fin 32, part f t.val = ∑ s : Fin 512, f (place t s) := fun t => dif_pos t.isLt
  simp only [h]
  rw [← Fintype.sum_prod_type' (f := fun t s => f (place t s))]
  exact Fintype.sum_equiv (finProdFinEquiv (m := 32) (n := 512)) _ _ fun p =>
    congrArg f (Fin.ext (Nat.add_comm _ _))

/-- What row `r` adds to the count of cluster `k`. -/
def one (x : Fin 16384 → Fin 256 → EReal) (w : Fin 1024 → Fin 256 → EReal) (k : Fin 1024) (r : Fin 16384) : EReal :=
  if label w (x r) = k then 1 else 0

/-- What row `r` adds to the sum of cluster `k`. -/
def total (x : Fin 16384 → Fin 256 → EReal) (w : Fin 1024 → Fin 256 → EReal) (k : Fin 1024) (r : Fin 16384) : EReal :=
  if label w (x r) = k then ∑ i, x r i else 0

/-! ## The blocks the points read -/

/-- Which block each point reads: the rows' window moves on by one at every point, the table's window stays. -/
theorem index_at : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

variable (m : (ℓ : Loc nD τ sig) → Buf (Elt Ideal) ℓ) (c : Dev nD)

/-- The matrix of rows. -/
abbrev rowsArg : FVec Ideal S16384x256 .f32 := m ((c : Thread nD τ).loc main_arg0)

/-- The cluster table. -/
abbrev tableArg : FVec Ideal S1024x256 .f32 := m ((c : Thread nD τ).loc main_arg1)

/-- A point's block of rows. -/
theorem rows_at (t : Fin cfg0.N) (h : t.val < 32) (s : Fin 512) :
    row (n := 512) (iblk m c 0 t) s = row (rowsArg m c) (place ⟨t.val, h⟩ s) := by
  obtain ⟨e0, e1, -, -⟩ := index_at t
  funext i
  show iblk m c 0 t (ix2 s i) = m ((c : Thread nD τ).loc main_arg0) (ix2 (place ⟨t.val, h⟩ s) i)
  blk_ext [iblk, V, e0, e1, place]

/-- Every point reads the whole table. -/
theorem table_at (t : Fin cfg0.N) : iblk m c 1 t = tableArg m c := by
  obtain ⟨-, -, e0, e1⟩ := index_at t
  funext i
  show iblk m c 1 t i = m ((c : Thread nD τ).loc main_arg1) i
  blk_ext [iblk, V, e0, e1]

/-! ## The carried columns -/

/-- One point's step on the counts, at cluster `k`. -/
theorem count_at (t : Fin cfg0.N) (acc : FVec Ideal S1024x1 .f32) (k : Fin 1024) :
    countStep (F := Ideal) (iblk m c 0 t) (iblk m c 1 t) acc (ix2 k 0)
      = acc (ix2 k 0) + part (one (row (rowsArg m c)) (row (tableArg m c)) k) t.val := by
  have h : t.val < 32 := lt_of_lt_of_eq t.isLt N_0
  rw [table_at m c t, countStep_at, part, dif_pos h]
  simp only [rows_at m c t h, one]

/-- One point's step on the sums, at cluster `k`. -/
theorem total_at (t : Fin cfg0.N) (acc : FVec Ideal S1024x1 .f32) (k : Fin 1024) :
    sumStep (F := Ideal) (iblk m c 0 t) (iblk m c 1 t) acc (ix2 k 0)
      = acc (ix2 k 0) + part (total (row (rowsArg m c)) (row (tableArg m c)) k) t.val := by
  have h : t.val < 32 := lt_of_lt_of_eq t.isLt N_0
  rw [table_at m c t, sumStep_at, part, dif_pos h]
  simp only [rows_at m c t h, total]

/-- Before the last point the columns hold the sums over the blocks read so far. -/
theorem carried : ∀ (n : ℕ) (hn : 0 + n < cfg0.N), n < 31 → ∀ k : Fin 1024,
    (Pipeline.accAt (fun n h => stAt0 m c n h junk0) (stAt0 m c) 0 n hn).2.1 (ix2 k 0)
        = ∑ t ∈ Finset.range (n + 1), part (one (row (rowsArg m c)) (row (tableArg m c)) k) t
    ∧ (Pipeline.accAt (fun n h => stAt0 m c n h junk0) (stAt0 m c) 0 n hn).2.2 (ix2 k 0)
        = ∑ t ∈ Finset.range (n + 1), part (total (row (rowsArg m c)) (row (tableArg m c)) k) t
  | 0, hn, _, k => by
    rw [Pipeline.accAt_zero, Finset.sum_range_one, Finset.sum_range_one]
    rw [stAt0_A m c ⟨0, hn⟩ _ (Nat.zero_mod _) (fun h => by dsimp only at h; omega)]
    dsimp only
    rw [counts_first, sums_first, count_at, total_at]
    have z5 : (k0_pay5 (F := Ideal)) (ix2 k 0) = 0 := by pointwise [k0_pay5]
    have z6 : (k0_pay6 (F := Ideal)) (ix2 k 0) = 0 := by pointwise [k0_pay6]
    rw [z5, z6, zero_add, zero_add]
    exact ⟨rfl, rfl⟩
  | n + 1, hn, hl, k => by
    obtain ⟨ih1, ih2⟩ := carried n (Nat.lt_of_succ_lt hn) (Nat.lt_of_succ_lt hl) k
    rw [Pipeline.accAt_succ, Finset.sum_range_succ, Finset.sum_range_succ _ (n + 1), ← ih1, ← ih2]
    rw [stAt0_B m c ⟨0 + (n + 1), hn⟩ _ (by dsimp only; omega) (by dsimp only; omega)]
    dsimp only
    rw [counts_middle, sums_middle, count_at, total_at]
    exact ⟨by simp only [Nat.zero_add], by simp only [Nat.zero_add]⟩

/-- THE KERNEL'S RESULT, entry by entry: from the number of all rows nearest to the cluster and the sum of their entries. -/
theorem result_at (k : Fin 1024) (j : Fin 256) :
    (G2 m c : FVec Ideal S1024x256 .f32) (ix2 k j)
      = moved (∑ r, one (row (rowsArg m c)) (row (tableArg m c)) k r)
          (∑ r, total (row (rowsArg m c)) (row (tableArg m c)) k r) (tableArg m c (ix2 k j)) := by
  have hN : 0 + 30 < cfg0.N := lt_of_lt_of_eq (by decide) N_0.symm
  obtain ⟨e1, e2⟩ := carried m c 30 hN (by decide) k
  rw [G2_last, Pipeline.accAt_succ]
  rw [stAt0_C m c ⟨0 + (30 + 1), lt_of_lt_of_eq (by decide) N_0.symm⟩ _ (by decide) (by decide)]
  dsimp only
  rw [table_last, finish_at, count_at, total_at, e1, e2, ← sum_part, ← sum_part, Finset.sum_range_succ _ 31,
    Finset.sum_range_succ _ 31, table_at]

end Cert.KernelIdeal.Array

end
-- ==== Proof.Equation.lean ====
/- The equation: the reference's second result is the table the kernel's array holds. -/
module

public import proofs.«01_k».proof.Proof.RefSums
public import proofs.«01_k».proof.Proof.Array

@[expose] public section

set_option maxRecDepth 16384

noncomputable section

namespace Cert.Equation

open Cert.Nearest Cert.ReferenceIdeal.Sums Cert.ReferenceIdeal.Labels Idealize.ShloMosaic Idealize.ShloMosaic.TcCoe Idealize.SL.Sem
open Cert.KernelIdeal.Array (one total)

section Reference

open Cert.ReferenceIdeal Cert.ReferenceIdeal.Gen Cert.ReferenceIdeal.Run

/-- The number the update compares a count with. -/
theorem ofBits_32 : Ideal.ofBits .f32 0x42000000#32 = ((32 : ℕ) : EReal) := by
  rw [show ((32 : ℕ) : EReal) = ((32 : ℝ) : EReal) by norm_cast]
  simp [Ideal.ofBits, Ideal.ieee, -EReal.coe_mul]
  norm_num

/-- The number of entries of a row, which scales a count to a number of entries. -/
theorem ofBits_256 : Ideal.ofBits .f32 0x43800000#32 = ((256 : ℕ) : EReal) := by
  rw [show ((256 : ℕ) : EReal) = ((256 : ℝ) : EReal) by norm_cast]
  simp [Ideal.ofBits, Ideal.ieee, -EReal.coe_mul]
  norm_num

/-- A small natural's word converts to the natural. -/
theorem sitofp_ofNat {n : ℕ} (hn : n < 2 ^ 31) :
    FloatOps.sitofp (F := Ideal) .f32 (BitVec.ofNat 32 n) = ((n : ℕ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

/-- The reference's divisor, a word converted, is the kernel's, a count scaled. -/
theorem divisor {n : ℕ} (hn : n ≤ 16384) :
    FloatOps.sitofp (F := Ideal) .f32 (IntOp.maxsi (IntOp.muli (BitVec.ofNat 32 n) 256#32) 1#32)
      = max ((n : EReal) * Ideal.ofBits .f32 0x43800000#32) 1 := by
  have e : IntOp.muli (BitVec.ofNat 32 n) 256#32 = BitVec.ofNat 32 (n * 256) := WordCmp.muli_ofNat n 256
  have e' : IntOp.maxsi (BitVec.ofNat 32 (n * 256)) 1#32 = BitVec.ofNat 32 (max (n * 256) 1) :=
    maxsi_ofNat (b := 1) (by omega) (by decide)
  rw [e, e', sitofp_ofNat (by omega), ofBits_256, ← EReal.natCast_mul, ← Nat.cast_one (R := EReal)]
  exact (Monotone.map_max fun a b h => EReal.natCast_le_iff.2 h)

/-- The reference's table, entry by entry, from a count that fits a word. -/
theorem table_at (counts : IVec S1024 32) (sums : FVec Ideal S1024 .f32) (w : FVec Ideal S1024x256 .f32) (k : Fin 1024)
    (j : Fin 256) (n : ℕ) (hn : n ≤ 16384) (h : counts (ix1 k) = BitVec.ofNat 32 n) :
    refTable counts sums w (ix2 k j) = moved (n : EReal) (sums (ix1 k)) (w (ix2 k j)) := by
  pointwise [refTable, moved]
  have hw : Scalar.select (IntOp.cmpi .sgt (BitVec.ofNat 32 n) 32#32) = fun a b : EReal => if 32 < n then a else b := by
    have e : IntOp.cmpi .sgt (BitVec.ofNat 32 n) 32#32 = BitVec.ofBool (decide (32 < n)) :=
      WordCmp.cmpi_sgt_ofNat (a := n) (b := 32) (by omega) (by decide)
    funext a b
    rw [e]
    by_cases q : 32 < n <;> simp [q, Scalar.select]
  have hc : Ideal.ofBits .f32 0x42000000#32 < (n : EReal) ↔ 32 < n := by
    rw [ofBits_32, EReal.natCast_lt_iff]
  rw [h, hw, divisor hn]
  simp only [hc]

/-- A cluster's number of rows, as the sum of ones over them. -/
theorem number_eq_sum (x : Fin 16384 → Fin 256 → EReal) (w : Fin 1024 → Fin 256 → EReal) (k : Fin 1024) :
    ((number (fun r => label w (x r)) k : ℕ) : EReal) = ∑ r, one x w k r := by
  unfold number one
  rw [Finset.card_filter]
  push_cast
  rfl

/-- THE REFERENCE'S RESULT, entry by entry: the same function of the rows and the table as the kernel's. -/
theorem result_at (x : FVec Ideal S16384x256 .f32) (w : FVec Ideal S1024x256 .f32) (k : Fin 1024) (j : Fin 256) :
    result x w (ix2 k j)
      = moved (∑ r, one (row x) (row w) k r) (∑ r, total (row x) (row w) k r) (w (ix2 k j)) := by
  unfold result
  rw [table_at _ _ w k j _ (number_le _ k) (counts_at (labels x w) _ (fun r => label_at x w r) k),
    sums_at x (labels x w) _ (fun r => label_at x w r) k, ← number_eq_sum]
  rfl

end Reference

/-- THE EQUATION: the kernel's array is the reference's result on the same arguments. -/
theorem kernel_eq_reference (m : (ℓ : Loc Cert.KernelIdeal.nD Cert.KernelIdeal.τ Cert.KernelIdeal.sig) → Buf (Elt Ideal) ℓ)
    (c : Dev Cert.KernelIdeal.nD) :
    (Cert.KernelIdeal.Value.G2 m c : FVec Ideal Cert.KernelIdeal.S1024x256 .f32)
      = Cert.ReferenceIdeal.Run.result (Cert.KernelIdeal.Array.rowsArg m c) (Cert.KernelIdeal.Array.tableArg m c) := by
  funext i
  rw [eq_ix2 i]
  exact (Cert.KernelIdeal.Array.result_at m c (i 0) (i 1)).trans (result_at _ _ (i 0) (i 1)).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel, at the ideal instance, and the reference end with the same rows and the same new table. -/
theorem algebraic : Cert.algebraic_KernelIdeal_ReferenceIdeal := by
  intro m g m' g' _ hargs
  refine ⟨fun c => m ((c.tc : Thread Cert.KernelIdeal.nD Cert.KernelIdeal.τ).loc Cert.KernelIdeal.main_arg0),
    fun c => Cert.KernelIdeal.Value.G2 m c, ?_, ?_⟩
  · exact (θ_run _ _ _).mono (fun r h c => ⟨(h c).2.1, (h c).1, (h c).2.1, (h c).2.2⟩) (Cert.KernelIdeal.Value.run m g)
  · refine (θ_run _ _ _).mono (fun r h c => ⟨(h c).2.1.trans (hargs c).1, (h c).1.trans ?_, (h c).2.1, (h c).2.2⟩)
      (Cert.ReferenceIdeal.Run.run m' g')
    rw [(hargs c).1, (hargs c).2]
    exact (Cert.Equation.kernel_eq_reference m c).symm

/-- Everything claimed: the three programs run and leave their arguments and every semaphore as they were, the kernel at
    the ideal instance is the kernel's own text, and it ends with the reference's results. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    Cert.ReferenceIdeal.Run.quiet, trivial, algebraic⟩

end Cert.Proof

end
